-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x9856 : Shape := ⟨3, ![192, 1, 9856]⟩
abbrev S22016x9856 : Shape := ⟨2, ![22016, 9856]⟩
abbrev S22016 : Shape := ⟨1, ![22016]⟩
abbrev S192x1x22016 : Shape := ⟨3, ![192, 1, 22016]⟩
abbrev S192x9856 : Shape := ⟨2, ![192, 9856]⟩
abbrev S1x22016 : Shape := ⟨2, ![1, 22016]⟩
abbrev S192x22016 : Shape := ⟨2, ![192, 22016]⟩
abbrev S192x1 : Shape := ⟨2, ![192, 1]⟩
abbrev S512x9856 : Shape := ⟨2, ![512, 9856]⟩
abbrev S1x512 : Shape := ⟨2, ![1, 512]⟩
abbrev S192x512 : Shape := ⟨2, ![192, 512]⟩
abbrev S192 : Shape := ⟨1, ![192]⟩

abbrev nBuf : Space → Nat
  | .hbm => 10
  | .vmem => 11
  | .smem => 0
  | _ => 0

abbrev bufTy : (tb : Table) → Fin (tcTables nBuf tb) → BufTy
  | .hbm, ⟨0, _⟩ => ⟨S192x1x9856, .bf16⟩
  | .hbm, ⟨1, _⟩ => ⟨S22016x9856, .fp8e4m3⟩
  | .hbm, ⟨2, _⟩ => ⟨S22016, .f32⟩
  | .hbm, ⟨3, _⟩ => ⟨S192x1x22016, .bf16⟩
  | .hbm, ⟨4, _⟩ => ⟨S192x9856, .bf16⟩
  | .hbm, ⟨5, _⟩ => ⟨S1x22016, .f32⟩
  | .hbm, ⟨6, _⟩ => ⟨S192x22016, .bf16⟩
  | .hbm, ⟨7, _⟩ => ⟨S192x22016, .bf16⟩
  | .hbm, ⟨8, _⟩ => ⟨S192x9856, .fp8e4m3⟩
  | .hbm, ⟨9, _⟩ => ⟨S192x1, .f32⟩
  | .local _ .vmem, ⟨0, _⟩ => ⟨S192x9856, .bf16⟩
  | .local _ .vmem, ⟨1, _⟩ => ⟨S512x9856, .fp8e4m3⟩
  | .local _ .vmem, ⟨2, _⟩ => ⟨S512x9856, .fp8e4m3⟩
  | .local _ .vmem, ⟨3, _⟩ => ⟨S1x512, .f32⟩
  | .local _ .vmem, ⟨4, _⟩ => ⟨S1x512, .f32⟩
  | .local _ .vmem, ⟨5, _⟩ => ⟨S192x512, .bf16⟩
  | .local _ .vmem, ⟨6, _⟩ => ⟨S192x512, .bf16⟩
  | .local _ .vmem, ⟨7, _⟩ => ⟨S192x512, .bf16⟩
  | .local _ .vmem, ⟨8, _⟩ => ⟨S192x512, .bf16⟩
  | .local _ .vmem, ⟨9, _⟩ => ⟨S192x9856, .fp8e4m3⟩
  | .local _ .vmem, ⟨10, _⟩ => ⟨S192x1, .f32⟩
  | _, _ => ⟨S192x1x9856, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![43], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x9856 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x9856 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S192x9856 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S192x1x9856 : Shape := ⟨3, ![192, 1, 9856]⟩
abbrev S22016x9856 : Shape := ⟨2, ![22016, 9856]⟩
abbrev S22016 : Shape := ⟨1, ![22016]⟩
abbrev S192x1x22016 : Shape := ⟨3, ![192, 1, 22016]⟩
abbrev S192x9856 : Shape := ⟨2, ![192, 9856]⟩
abbrev S1x22016 : Shape := ⟨2, ![1, 22016]⟩
abbrev S192x22016 : Shape := ⟨2, ![192, 22016]⟩
abbrev S192x1 : Shape := ⟨2, ![192, 1]⟩
abbrev S192 : Shape := ⟨1, ![192]⟩

abbrev nBuf : Space → Nat
  | .hbm => 10
  | .vmem => 7
  | .smem => 0
  | _ => 0

abbrev bufTy : (tb : Table) → Fin (tcTables nBuf tb) → BufTy
  | .hbm, ⟨0, _⟩ => ⟨S192x1x9856, .bf16⟩
  | .hbm, ⟨1, _⟩ => ⟨S22016x9856, .fp8e4m3⟩
  | .hbm, ⟨2, _⟩ => ⟨S22016, .f32⟩
  | .hbm, ⟨3, _⟩ => ⟨S192x1x22016, .bf16⟩
  | .hbm, ⟨4, _⟩ => ⟨S192x9856, .bf16⟩
  | .hbm, ⟨5, _⟩ => ⟨S1x22016, .f32⟩
  | .hbm, ⟨6, _⟩ => ⟨S192x22016, .bf16⟩
  | .hbm, ⟨7, _⟩ => ⟨S192x22016, .bf16⟩
  | .hbm, ⟨8, _⟩ => ⟨S192x9856, .fp8e4m3⟩
  | .hbm, ⟨9, _⟩ => ⟨S192x1, .f32⟩
  | .local _ .vmem, ⟨0, _⟩ => ⟨S192x9856, .bf16⟩
  | .local _ .vmem, ⟨1, _⟩ => ⟨S22016x9856, .fp8e4m3⟩
  | .local _ .vmem, ⟨2, _⟩ => ⟨S1x22016, .f32⟩
  | .local _ .vmem, ⟨3, _⟩ => ⟨S192x22016, .bf16⟩
  | .local _ .vmem, ⟨4, _⟩ => ⟨S192x22016, .bf16⟩
  | .local _ .vmem, ⟨5, _⟩ => ⟨S192x9856, .fp8e4m3⟩
  | .local _ .vmem, ⟨6, _⟩ => ⟨S192x1, .f32⟩
  | _, _ => ⟨S192x1x9856, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln_2" => some ((Real.log 2 : ℝ) : EReal)
  | _ => none

abbrev grid0 : Pipeline.Grid := .none

abbrev stage0_0 : Fin 1 → Memref sig .tc .vmem S192x9856 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S22016x9856 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x22016 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x22016 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x22016 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x9856 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.FloatBody.lean ====
/-
  What one grid point of the kernel, read over floats, leaves in its output buffers.

  `Cert.Kernel` is the kernel read over floats of each format; KernelBody.lean is the same account of `Cert.KernelIdeal`,
  the same text printed for the reading over the extended reals. The two are separate definitions, so each has its own
  proof; of this one only the frame is used.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two words the quantiser computes from the activations: whether the exponent is replaced by zero, and the exponent. -/
abbrev flagOf (x : Vec F S192x9856 .bf16) : IVec S192x1 1 := k0_pay12 (k0_pay7 x) (k0_pay8 x) (k0_pay9 x) k0_pay10
abbrev expOf (x : Vec F S192x9856 .bf16) : IVec S192x1 32 := k0_pay13 (k0_pay7 x) (k0_pay8 x) (k0_pay9 x) k0_pay10

/-- The per-row scale the kernel stores, from the activations. -/
def scaleOf (x : Vec F S192x9856 .bf16) : Vec F S192x1 .f32 := k0_pay2 (k0_pay6 x) (flagOf x) (expOf x)

/-- The fp8 codes the kernel stores, from the activations. -/
def codesOf (x : Vec F S192x9856 .bf16) : Vec F S192x9856 .fp8e4m3 := k0_pay3 (k0_pay5 x) (k0_pay6 x) (flagOf x) (expOf x)

theorem offsets_zero : (![0, 0] : Fin 2 → Nat) = fun _ => 0 := funext fun a => by fin_cases a <;> rfl

set_option maxHeartbeats 4000000 in
/-- The body at the first point: from the four input blocks it leaves the codes, the scale, and the block of the result
    computed from them. -/
theorem run_first (c : Dev nD) (i : grid0.Coords) (arg1 : Memref sig .tc .vmem S192x9856 .bf16) (harg1 : arg1.IsWhole) (arg2 : Memref sig .tc .vmem S512x9856 .fp8e4m3) (harg2 : arg2.IsWhole) (arg3 : Memref sig .tc .vmem S1x512 .f32) (harg3 : arg3.IsWhole) (arg4 : Memref sig .tc .vmem S192x512 .bf16) (harg4 : arg4.IsWhole)
    (arg5 : Memref sig .tc .vmem S192x512 .bf16) (harg5 : arg5.IsWhole) (arg6 : Memref sig .tc .vmem S192x9856 .fp8e4m3) (harg6 : arg6.IsWhole) (arg7 : Memref sig .tc .vmem S192x1 .f32) (harg7 : arg7.IsWhole) (hc0 : k0_cond1 i = 1#1)
    (x0 : Vec F S192x9856 .bf16) (x1 : Vec F S512x9856 .fp8e4m3) (x2 : Vec F S1x512 .f32) (x3 : Vec F S192x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay4 (codesOf x0) x1 (scaleOf x0) x2 x3) ∗ owns (c : Thread nD τ) arg6 fullShare (codesOf x0) ∗ owns (c : Thread nD τ) arg7 fullShare (scaleOf x0)) -∗ K ⟨⟩))
      ⊢ wp frame (wpE (defs₀ (F := F)) Variants.none c none) E (cc0_w8a8_linear i arg1 harg1 arg2 harg2 arg3 harg3 arg4 harg4 arg5 harg5 arg6 harg6 arg7 harg7) K := by
  simp only [cc0_w8a8_linear_eq_skeleton]; unfold cc0_w8a8_linear_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    rw [View.read_writes_eq_canon _ _ _ (fun y => View.cover_of_tiled _ S192x512.size (by rfl) y), View.canon_unit_zero offsets_zero]
    simp only [View.readAt_eq_ld, harg1.read_unread, harg2.read_unread, harg3.read_unread, harg4.read_unread, View.ld_unit_zero (S := S192x9856) offsets_zero, View.ld_unit_zero (S := S512x9856) offsets_zero, View.ld_unit_zero (S := S1x512) offsets_zero, View.ld_unit_zero (S := S192x512) offsets_zero, View.readCov_unit_zero (S := S192x9856) _ offsets_zero, View.readCov_unit_zero (S := S192x1) _ offsets_zero]
    rfl
  isplitl [H5]
  · iexists _; isplitr; swap; · iexact H5
    ipureintro
    sl_unfold_words
    rw [View.read_writes_eq_canon _ _ _ (fun y => View.cover_of_tiled _ S192x9856.size (by rfl) y), View.canon_unit_zero offsets_zero]
    simp only [View.readAt_eq_ld, harg1.read_unread, View.ld_unit_zero (S := S192x9856) offsets_zero]
    rfl
  iexists _; isplitr; swap; · iexact H6
  ipureintro
  sl_unfold_words
  rw [View.read_writes_eq_canon _ _ _ (fun y => View.cover_of_tiled _ S192x1.size (by rfl) y), View.canon_unit_zero offsets_zero]
  simp only [View.readAt_eq_ld, harg1.read_unread, View.ld_unit_zero (S := S192x9856) offsets_zero]
  rfl

set_option maxHeartbeats 4000000 in
/-- The body at a later point: it finds codes and a scale in their buffers, leaves them, and leaves the block of the result
    computed from them. -/
theorem run_later (c : Dev nD) (i : grid0.Coords) (arg1 : Memref sig .tc .vmem S192x9856 .bf16) (harg1 : arg1.IsWhole) (arg2 : Memref sig .tc .vmem S512x9856 .fp8e4m3) (harg2 : arg2.IsWhole) (arg3 : Memref sig .tc .vmem S1x512 .f32) (harg3 : arg3.IsWhole) (arg4 : Memref sig .tc .vmem S192x512 .bf16) (harg4 : arg4.IsWhole)
    (arg5 : Memref sig .tc .vmem S192x512 .bf16) (harg5 : arg5.IsWhole) (arg6 : Memref sig .tc .vmem S192x9856 .fp8e4m3) (harg6 : arg6.IsWhole) (arg7 : Memref sig .tc .vmem S192x1 .f32) (harg7 : arg7.IsWhole) (hc0 : ¬k0_cond1 i = 1#1)
    (x0 : Vec F S192x9856 .bf16) (x1 : Vec F S512x9856 .fp8e4m3) (x2 : Vec F S1x512 .f32) (x3 : Vec F S192x512 .bf16) (q : Vec F S192x9856 .fp8e4m3) (s : Vec F S192x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare q ∗ owns (c : Thread nD τ) arg7 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay4 q x1 s x2 x3) ∗ owns (c : Thread nD τ) arg6 fullShare q ∗ owns (c : Thread nD τ) arg7 fullShare s) -∗ K ⟨⟩))
      ⊢ wp frame (wpE (defs₀ (F := F)) Variants.none c none) E (cc0_w8a8_linear i arg1 harg1 arg2 harg2 arg3 harg3 arg4 harg4 arg5 harg5 arg6 harg6 arg7 harg7) K := by
  simp only [cc0_w8a8_linear_eq_skeleton]; unfold cc0_w8a8_linear_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    rw [View.read_writes_eq_canon _ _ _ (fun y => View.cover_of_tiled _ S192x512.size (by rfl) y), View.canon_unit_zero offsets_zero]
    simp only [View.readAt_eq_ld, harg2.read_unread, harg3.read_unread, harg4.read_unread, harg6.read_unread, harg7.read_unread, View.ld_unit_zero (S := S192x9856) offsets_zero, View.ld_unit_zero (S := S512x9856) offsets_zero, View.ld_unit_zero (S := S1x512) offsets_zero, View.ld_unit_zero (S := S192x512) offsets_zero, View.ld_unit_zero (S := S192x1) offsets_zero]
  isplitl [H5]
  · iexists _; isplitr; · ipureintro; exact harg6.read_unread _
    iexact H5
  iexists _; isplitr; · ipureintro; exact harg7.read_unread _
  iexact H6

end Cert.Kernel.Hand

end
-- ==== Proof.FloatRun.lean ====
/-
  The whole run of the kernel, read over floats: it terminates without a fault, leaves its arguments unchanged and
  every semaphore at zero. KernelRun.lean is the same for the reading over the extended reals.
-/
module

public import proofs.«01_k».proof.Proof.FloatBody
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by rw [show cfg0.N = 43 from N_0]; decide⟩

/-! ## The points -/

/-- The body quantises at the first point only. -/
theorem first_iff (t : Fin cfg0.N) : k0_cond1 (grid0.coords t) = 1#1 ↔ t.val = 0 :=
  (fun t => by
    have ht : t.val < 43 := Nat.lt_of_lt_of_eq t.isLt N_0
    have e0 : (grid0.coords t 0).val = t.val / 1 % 43 := Pipeline.Grid.coords_val t 0 (by decide) rfl
    simp only [k0_cond1, e0]
    word_cmp
   : ∀ t : Fin grid0.N, k0_cond1 (grid0.coords t) = 1#1 ↔ t.val = 0) t

theorem idle_eq (t : Fin cfg0.N) (h : t.val ≠ 0) : (!(k0_cond1 (grid0.coords t) == 1#1)) = true := by
  have : ¬k0_cond1 (grid0.coords t) = 1#1 := fun hc => h ((first_iff t).mp hc)
  simp [this]

theorem live_eq (t : Fin cfg0.N) (h : t.val = 0) : (!(k0_cond1 (grid0.coords t) == 1#1)) = false := by
  simp [(first_iff t).mpr h]

theorem idle5 (t : Fin cfg0.N) (h : t.val ≠ 0) : cfg0.idle 5 (cfg0.grid.coords t) = true := idle_eq t h
theorem idle6 (t : Fin cfg0.N) (h : t.val ≠ 0) : cfg0.idle 6 (cfg0.grid.coords t) = true := idle_eq t h
theorem live5 (t : Fin cfg0.N) (h : t.val = 0) : cfg0.idle 5 (cfg0.grid.coords t) = false := live_eq t h
theorem live6 (t : Fin cfg0.N) (h : t.val = 0) : cfg0.idle 6 (cfg0.grid.coords t) = false := live_eq t h

/-! ## The contents of the buffers after each point -/

/-- After point `t` each input buffer holds its block, the codes' and the scale's buffers what the first point computed,
    and the result's buffer the block computed from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (codesOf (iblk m c 0 t0)) (iblk m c 1 t) (scaleOf (iblk m c 0 t0)) (iblk m c 2 t) (iblk m c 3 t)
    | ⟨5, _⟩ => codesOf (iblk m c 0 t0)
    | ⟨6, _⟩ => scaleOf (iblk m c 0 t0)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t
    = k0_pay4 (codesOf (iblk m c 0 t0)) (iblk m c 1 t) (scaleOf (iblk m c 0 t0)) (iblk m c 2 t) (iblk m c 3 t) := by dsimp only [dats]
theorem after5 (c : Dev nD) (t : Fin cfg0.N) : (dats m 0 c).after 5 t = codesOf (iblk m c 0 t0) := by dsimp only [dats]
theorem after6 (c : Dev nD) (t : Fin cfg0.N) : (dats m 0 c).after 6 t = scaleOf (iblk m c 0 t0) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem fetch5 (t : Fin cfg0.N) : (cfg0.win 5).fetch t = false := rfl

/-- After the first point the buffer of window 5 is found as the first point left it. -/
theorem before5 (c : Dev nD) (d) : ∀ (n : ℕ) (h : n < cfg0.N), n ≠ 0 → (dats m 0 c).before 5 ⟨n, h⟩ d = codesOf (iblk m c 0 t0)
  | 0, _, h => absurd rfl h
  | n + 1, h, _ => by
    have hN : cfg0.N = 43 := N_0
    rw [(dats m 0 c).before_of_pos 5 ⟨n + 1, h⟩ (Nat.succ_ne_zero n) (fetch5 _)]
    show (if (cfg0.win 5).flush ⟨n, Nat.lt_of_succ_lt h⟩ = true then d else (dats m 0 c).left 5 ⟨n, Nat.lt_of_succ_lt h⟩ d) = codesOf (iblk m c 0 t0)
    rw [show (cfg0.win 5).flush ⟨n, Nat.lt_of_succ_lt h⟩ = false from Bool.eq_false_iff.mpr fun hf => by
        have := (flush0_5 _).mp hf; dsimp only at this; omega, if_neg Bool.false_ne_true]
    unfold Dat.left
    by_cases hn : n = 0
    · subst hn
      rw [show cfg0.idle 5 (cfg0.grid.coords ⟨0, Nat.lt_of_succ_lt h⟩) = false from live5 _ rfl]
      show (dats m 0 c).after 5 ⟨0, _⟩ = _
      rw [after5]
    · rw [show cfg0.idle 5 (cfg0.grid.coords ⟨n, Nat.lt_of_succ_lt h⟩) = true from idle5 _ hn]
      exact before5 c d n _ hn

theorem fetch6 (t : Fin cfg0.N) : (cfg0.win 6).fetch t = false := rfl

/-- After the first point the buffer of window 6 is found as the first point left it. -/
theorem before6 (c : Dev nD) (d) : ∀ (n : ℕ) (h : n < cfg0.N), n ≠ 0 → (dats m 0 c).before 6 ⟨n, h⟩ d = scaleOf (iblk m c 0 t0)
  | 0, _, h => absurd rfl h
  | n + 1, h, _ => by
    have hN : cfg0.N = 43 := N_0
    rw [(dats m 0 c).before_of_pos 6 ⟨n + 1, h⟩ (Nat.succ_ne_zero n) (fetch6 _)]
    show (if (cfg0.win 6).flush ⟨n, Nat.lt_of_succ_lt h⟩ = true then d else (dats m 0 c).left 6 ⟨n, Nat.lt_of_succ_lt h⟩ d) = scaleOf (iblk m c 0 t0)
    rw [show (cfg0.win 6).flush ⟨n, Nat.lt_of_succ_lt h⟩ = false from Bool.eq_false_iff.mpr fun hf => by
        have := (flush0_6 _).mp hf; dsimp only at this; omega, if_neg Bool.false_ne_true]
    unfold Dat.left
    by_cases hn : n = 0
    · subst hn
      rw [show cfg0.idle 6 (cfg0.grid.coords ⟨0, Nat.lt_of_succ_lt h⟩) = false from live6 _ rfl]
      show (dats m 0 c).after 6 ⟨0, _⟩ = _
      rw [after6]
    · rw [show cfg0.idle 6 (cfg0.grid.coords ⟨n, Nat.lt_of_succ_lt h⟩) = true from idle6 _ hn]
      exact before6 c d n _ hn

/-! ## The body at a grid point -/

/-- At any point, a buffer of window 5 that holds what the first point computed is as the pipeline wants it. -/
theorem leaves5 (c : Dev nD) (t : Fin cfg0.N) :
    (owns (c : Thread nD τ) (st0_5 t) fullShare (codesOf (iblk m c 0 t0)) : sProp 𝕄) ⊢ (dats m 0 c).leavesExact 5 t := by
  by_cases h : t.val = 0
  · unfold Dat.leavesExact; rw [live5 t h, after5]
  · cases hf : (cfg0.win 5).flush t
    · rw [(dats m 0 c).leavesExact_idle 5 t (idle5 t h) hf]
      iintro H; iexists (fun _ => Classical.arbitrary _)
      rw [before5 m c _ t.val t.isLt h]; iexact H
    · unfold Dat.leavesExact; rw [idle5 t h, hf, after5]

/-- At any point, a buffer of window 6 that holds what the first point computed is as the pipeline wants it. -/
theorem leaves6 (c : Dev nD) (t : Fin cfg0.N) :
    (owns (c : Thread nD τ) (st0_6 t) fullShare (scaleOf (iblk m c 0 t0)) : sProp 𝕄) ⊢ (dats m 0 c).leavesExact 6 t := by
  by_cases h : t.val = 0
  · unfold Dat.leavesExact; rw [live6 t h, after6]
  · cases hf : (cfg0.win 6).flush t
    · rw [(dats m 0 c).leavesExact_idle 6 t (idle6 t h) hf]
      iintro H; iexists (fun _ => Classical.arbitrary _)
      rw [before6 m c _ t.val t.isLt h]; iexact H
    · unfold Dat.leavesExact; rw [idle6 t h, hf, after6]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t)

set_option maxHeartbeats 1600000 in
/-- The body at any point: at the first the quantising run, at a later one the run from the codes and the scale found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h : t.val = 0
  · obtain rfl : t = t0 := Fin.ext h
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t0) _ _ _ _ _ _ _ _ _ _ _ _ _ _ ((first_iff t0).mpr h) (iblk m c 0 t0) (iblk m c 1 t0) (iblk m c 2 t0) (iblk m c 3 t0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t0); iexact H5
    iapply (leaves6 m c t0); iexact H6
  · simp only [before5 m c _ t.val t.isLt h, before6 m c _ t.val t.isLt h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ (fun hc => h ((first_iff t).mp hc)) (iblk m c 0 t) (iblk m c 1 t) (iblk m c 2 t) (iblk m c 3 t)
      (codesOf (iblk m c 0 t0)) (scaleOf (iblk m c 0 t0)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t); iexact H5
    iapply (leaves6 m c t); iexact H6

theorem defs₀_row (t : Fin cfg0.N) :
    defs₀ (F := F) .tc cfg0.body (cfg0.bodyArgs t (cfg0.slots t)) = bodyAt0 t := by
  unfold defs₀; rw [Defs.onTc_tc]

/-- The body meets what the pipeline asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 1600000 in
/-- Every execution ends, with the three result arrays as the pipeline writes them, every other array as it was, and every
    semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged, and every semaphore counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.KernelBody.lean ====
/-
  What one grid point of the kernel leaves in its output buffers.

  At point 0 the body quantises the activation block: it stores the fp8 codes and the per-row scale, and then
  computes its first block of the result from them. At every later point it finds the codes and the scale still in
  their buffers and computes its block of the result from them.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two words the quantiser computes from the activations: whether the exponent is replaced by zero, and the exponent. -/
abbrev flagOf (x : Vec F S192x9856 .bf16) : IVec S192x1 1 := k0_pay12 (k0_pay7 x) (k0_pay8 x) (k0_pay9 x) k0_pay10
abbrev expOf (x : Vec F S192x9856 .bf16) : IVec S192x1 32 := k0_pay13 (k0_pay7 x) (k0_pay8 x) (k0_pay9 x) k0_pay10

/-- The per-row scale the kernel stores, from the activations. -/
def scaleOf (x : Vec F S192x9856 .bf16) : Vec F S192x1 .f32 := k0_pay2 (k0_pay6 x) (flagOf x) (expOf x)

/-- The fp8 codes the kernel stores, from the activations. -/
def codesOf (x : Vec F S192x9856 .bf16) : Vec F S192x9856 .fp8e4m3 := k0_pay3 (k0_pay5 x) (k0_pay6 x) (flagOf x) (expOf x)

theorem offsets_zero : (![0, 0] : Fin 2 → Nat) = fun _ => 0 := funext fun a => by fin_cases a <;> rfl

set_option maxHeartbeats 4000000 in
/-- The body at the first point: from the four input blocks it leaves the codes, the scale, and the block of the result
    computed from them. -/
theorem run_first (c : Dev nD) (i : grid0.Coords) (arg1 : Memref sig .tc .vmem S192x9856 .bf16) (harg1 : arg1.IsWhole) (arg2 : Memref sig .tc .vmem S512x9856 .fp8e4m3) (harg2 : arg2.IsWhole) (arg3 : Memref sig .tc .vmem S1x512 .f32) (harg3 : arg3.IsWhole) (arg4 : Memref sig .tc .vmem S192x512 .bf16) (harg4 : arg4.IsWhole)
    (arg5 : Memref sig .tc .vmem S192x512 .bf16) (harg5 : arg5.IsWhole) (arg6 : Memref sig .tc .vmem S192x9856 .fp8e4m3) (harg6 : arg6.IsWhole) (arg7 : Memref sig .tc .vmem S192x1 .f32) (harg7 : arg7.IsWhole) (hc0 : k0_cond1 i = 1#1)
    (x0 : Vec F S192x9856 .bf16) (x1 : Vec F S512x9856 .fp8e4m3) (x2 : Vec F S1x512 .f32) (x3 : Vec F S192x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay4 (codesOf x0) x1 (scaleOf x0) x2 x3) ∗ owns (c : Thread nD τ) arg6 fullShare (codesOf x0) ∗ owns (c : Thread nD τ) arg7 fullShare (scaleOf x0)) -∗ K ⟨⟩))
      ⊢ wp frame (wpE (defs₀ (F := F)) Variants.none c none) E (cc0_w8a8_linear i arg1 harg1 arg2 harg2 arg3 harg3 arg4 harg4 arg5 harg5 arg6 harg6 arg7 harg7) K := by
  simp only [cc0_w8a8_linear_eq_skeleton]; unfold cc0_w8a8_linear_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    rw [View.read_writes_eq_canon _ _ _ (fun y => View.cover_of_tiled _ S192x512.size (by rfl) y), View.canon_unit_zero offsets_zero]
    simp only [View.readAt_eq_ld, harg1.read_unread, harg2.read_unread, harg3.read_unread, harg4.read_unread, View.ld_unit_zero (S := S192x9856) offsets_zero, View.ld_unit_zero (S := S512x9856) offsets_zero, View.ld_unit_zero (S := S1x512) offsets_zero, View.ld_unit_zero (S := S192x512) offsets_zero, View.readCov_unit_zero (S := S192x9856) _ offsets_zero, View.readCov_unit_zero (S := S192x1) _ offsets_zero]
    rfl
  isplitl [H5]
  · iexists _; isplitr; swap; · iexact H5
    ipureintro
    sl_unfold_words
    rw [View.read_writes_eq_canon _ _ _ (fun y => View.cover_of_tiled _ S192x9856.size (by rfl) y), View.canon_unit_zero offsets_zero]
    simp only [View.readAt_eq_ld, harg1.read_unread, View.ld_unit_zero (S := S192x9856) offsets_zero]
    rfl
  iexists _; isplitr; swap; · iexact H6
  ipureintro
  sl_unfold_words
  rw [View.read_writes_eq_canon _ _ _ (fun y => View.cover_of_tiled _ S192x1.size (by rfl) y), View.canon_unit_zero offsets_zero]
  simp only [View.readAt_eq_ld, harg1.read_unread, View.ld_unit_zero (S := S192x9856) offsets_zero]
  rfl

set_option maxHeartbeats 4000000 in
/-- The body at a later point: it finds codes and a scale in their buffers, leaves them, and leaves the block of the result
    computed from them. -/
theorem run_later (c : Dev nD) (i : grid0.Coords) (arg1 : Memref sig .tc .vmem S192x9856 .bf16) (harg1 : arg1.IsWhole) (arg2 : Memref sig .tc .vmem S512x9856 .fp8e4m3) (harg2 : arg2.IsWhole) (arg3 : Memref sig .tc .vmem S1x512 .f32) (harg3 : arg3.IsWhole) (arg4 : Memref sig .tc .vmem S192x512 .bf16) (harg4 : arg4.IsWhole)
    (arg5 : Memref sig .tc .vmem S192x512 .bf16) (harg5 : arg5.IsWhole) (arg6 : Memref sig .tc .vmem S192x9856 .fp8e4m3) (harg6 : arg6.IsWhole) (arg7 : Memref sig .tc .vmem S192x1 .f32) (harg7 : arg7.IsWhole) (hc0 : ¬k0_cond1 i = 1#1)
    (x0 : Vec F S192x9856 .bf16) (x1 : Vec F S512x9856 .fp8e4m3) (x2 : Vec F S1x512 .f32) (x3 : Vec F S192x512 .bf16) (q : Vec F S192x9856 .fp8e4m3) (s : Vec F S192x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare q ∗ owns (c : Thread nD τ) arg7 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay4 q x1 s x2 x3) ∗ owns (c : Thread nD τ) arg6 fullShare q ∗ owns (c : Thread nD τ) arg7 fullShare s) -∗ K ⟨⟩))
      ⊢ wp frame (wpE (defs₀ (F := F)) Variants.none c none) E (cc0_w8a8_linear i arg1 harg1 arg2 harg2 arg3 harg3 arg4 harg4 arg5 harg5 arg6 harg6 arg7 harg7) K := by
  simp only [cc0_w8a8_linear_eq_skeleton]; unfold cc0_w8a8_linear_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    rw [View.read_writes_eq_canon _ _ _ (fun y => View.cover_of_tiled _ S192x512.size (by rfl) y), View.canon_unit_zero offsets_zero]
    simp only [View.readAt_eq_ld, harg2.read_unread, harg3.read_unread, harg4.read_unread, harg6.read_unread, harg7.read_unread, View.ld_unit_zero (S := S192x9856) offsets_zero, View.ld_unit_zero (S := S512x9856) offsets_zero, View.ld_unit_zero (S := S1x512) offsets_zero, View.ld_unit_zero (S := S192x512) offsets_zero, View.ld_unit_zero (S := S192x1) offsets_zero]
  isplitl [H5]
  · iexists _; isplitr; · ipureintro; exact harg6.read_unread _
    iexact H5
  iexists _; isplitr; · ipureintro; exact harg7.read_unread _
  iexact H6

end Cert.KernelIdeal.Hand

end
-- ==== Proof.KernelRun.lean ====
/-
  The kernel's whole run: what its three result arrays hold at the end, as the blocks the body leaves.

  The codes and the scale stay in their buffers from the first point to the last, where they are written back; the
  result is written back block by block.
-/
module

public import proofs.«01_k».proof.Proof.KernelBody
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by rw [show cfg0.N = 43 from N_0]; decide⟩

/-! ## The points -/

/-- The body quantises at the first point only. -/
theorem first_iff (t : Fin cfg0.N) : k0_cond1 (grid0.coords t) = 1#1 ↔ t.val = 0 :=
  (fun t => by
    have ht : t.val < 43 := Nat.lt_of_lt_of_eq t.isLt N_0
    have e0 : (grid0.coords t 0).val = t.val / 1 % 43 := Pipeline.Grid.coords_val t 0 (by decide) rfl
    simp only [k0_cond1, e0]
    word_cmp
   : ∀ t : Fin grid0.N, k0_cond1 (grid0.coords t) = 1#1 ↔ t.val = 0) t

theorem idle_eq (t : Fin cfg0.N) (h : t.val ≠ 0) : (!(k0_cond1 (grid0.coords t) == 1#1)) = true := by
  have : ¬k0_cond1 (grid0.coords t) = 1#1 := fun hc => h ((first_iff t).mp hc)
  simp [this]

theorem live_eq (t : Fin cfg0.N) (h : t.val = 0) : (!(k0_cond1 (grid0.coords t) == 1#1)) = false := by
  simp [(first_iff t).mpr h]

theorem idle5 (t : Fin cfg0.N) (h : t.val ≠ 0) : cfg0.idle 5 (cfg0.grid.coords t) = true := idle_eq t h
theorem idle6 (t : Fin cfg0.N) (h : t.val ≠ 0) : cfg0.idle 6 (cfg0.grid.coords t) = true := idle_eq t h
theorem live5 (t : Fin cfg0.N) (h : t.val = 0) : cfg0.idle 5 (cfg0.grid.coords t) = false := live_eq t h
theorem live6 (t : Fin cfg0.N) (h : t.val = 0) : cfg0.idle 6 (cfg0.grid.coords t) = false := live_eq t h

/-! ## The contents of the buffers after each point -/

/-- After point `t` each input buffer holds its block, the codes' and the scale's buffers what the first point computed,
    and the result's buffer the block computed from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (codesOf (iblk m c 0 t0)) (iblk m c 1 t) (scaleOf (iblk m c 0 t0)) (iblk m c 2 t) (iblk m c 3 t)
    | ⟨5, _⟩ => codesOf (iblk m c 0 t0)
    | ⟨6, _⟩ => scaleOf (iblk m c 0 t0)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t
    = k0_pay4 (codesOf (iblk m c 0 t0)) (iblk m c 1 t) (scaleOf (iblk m c 0 t0)) (iblk m c 2 t) (iblk m c 3 t) := by dsimp only [dats]
theorem after5 (c : Dev nD) (t : Fin cfg0.N) : (dats m 0 c).after 5 t = codesOf (iblk m c 0 t0) := by dsimp only [dats]
theorem after6 (c : Dev nD) (t : Fin cfg0.N) : (dats m 0 c).after 6 t = scaleOf (iblk m c 0 t0) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem fetch5 (t : Fin cfg0.N) : (cfg0.win 5).fetch t = false := rfl

/-- After the first point the buffer of window 5 is found as the first point left it. -/
theorem before5 (c : Dev nD) (d) : ∀ (n : ℕ) (h : n < cfg0.N), n ≠ 0 → (dats m 0 c).before 5 ⟨n, h⟩ d = codesOf (iblk m c 0 t0)
  | 0, _, h => absurd rfl h
  | n + 1, h, _ => by
    have hN : cfg0.N = 43 := N_0
    rw [(dats m 0 c).before_of_pos 5 ⟨n + 1, h⟩ (Nat.succ_ne_zero n) (fetch5 _)]
    show (if (cfg0.win 5).flush ⟨n, Nat.lt_of_succ_lt h⟩ = true then d else (dats m 0 c).left 5 ⟨n, Nat.lt_of_succ_lt h⟩ d) = codesOf (iblk m c 0 t0)
    rw [show (cfg0.win 5).flush ⟨n, Nat.lt_of_succ_lt h⟩ = false from Bool.eq_false_iff.mpr fun hf => by
        have := (flush0_5 _).mp hf; dsimp only at this; omega, if_neg Bool.false_ne_true]
    unfold Dat.left
    by_cases hn : n = 0
    · subst hn
      rw [show cfg0.idle 5 (cfg0.grid.coords ⟨0, Nat.lt_of_succ_lt h⟩) = false from live5 _ rfl]
      show (dats m 0 c).after 5 ⟨0, _⟩ = _
      rw [after5]
    · rw [show cfg0.idle 5 (cfg0.grid.coords ⟨n, Nat.lt_of_succ_lt h⟩) = true from idle5 _ hn]
      exact before5 c d n _ hn

theorem fetch6 (t : Fin cfg0.N) : (cfg0.win 6).fetch t = false := rfl

/-- After the first point the buffer of window 6 is found as the first point left it. -/
theorem before6 (c : Dev nD) (d) : ∀ (n : ℕ) (h : n < cfg0.N), n ≠ 0 → (dats m 0 c).before 6 ⟨n, h⟩ d = scaleOf (iblk m c 0 t0)
  | 0, _, h => absurd rfl h
  | n + 1, h, _ => by
    have hN : cfg0.N = 43 := N_0
    rw [(dats m 0 c).before_of_pos 6 ⟨n + 1, h⟩ (Nat.succ_ne_zero n) (fetch6 _)]
    show (if (cfg0.win 6).flush ⟨n, Nat.lt_of_succ_lt h⟩ = true then d else (dats m 0 c).left 6 ⟨n, Nat.lt_of_succ_lt h⟩ d) = scaleOf (iblk m c 0 t0)
    rw [show (cfg0.win 6).flush ⟨n, Nat.lt_of_succ_lt h⟩ = false from Bool.eq_false_iff.mpr fun hf => by
        have := (flush0_6 _).mp hf; dsimp only at this; omega, if_neg Bool.false_ne_true]
    unfold Dat.left
    by_cases hn : n = 0
    · subst hn
      rw [show cfg0.idle 6 (cfg0.grid.coords ⟨0, Nat.lt_of_succ_lt h⟩) = false from live6 _ rfl]
      show (dats m 0 c).after 6 ⟨0, _⟩ = _
      rw [after6]
    · rw [show cfg0.idle 6 (cfg0.grid.coords ⟨n, Nat.lt_of_succ_lt h⟩) = true from idle6 _ hn]
      exact before6 c d n _ hn

/-! ## The body at a grid point -/

/-- At any point, a buffer of window 5 that holds what the first point computed is as the pipeline wants it. -/
theorem leaves5 (c : Dev nD) (t : Fin cfg0.N) :
    (owns (c : Thread nD τ) (st0_5 t) fullShare (codesOf (iblk m c 0 t0)) : sProp 𝕄) ⊢ (dats m 0 c).leavesExact 5 t := by
  by_cases h : t.val = 0
  · unfold Dat.leavesExact; rw [live5 t h, after5]
  · cases hf : (cfg0.win 5).flush t
    · rw [(dats m 0 c).leavesExact_idle 5 t (idle5 t h) hf]
      iintro H; iexists (fun _ => Classical.arbitrary _)
      rw [before5 m c _ t.val t.isLt h]; iexact H
    · unfold Dat.leavesExact; rw [idle5 t h, hf, after5]

/-- At any point, a buffer of window 6 that holds what the first point computed is as the pipeline wants it. -/
theorem leaves6 (c : Dev nD) (t : Fin cfg0.N) :
    (owns (c : Thread nD τ) (st0_6 t) fullShare (scaleOf (iblk m c 0 t0)) : sProp 𝕄) ⊢ (dats m 0 c).leavesExact 6 t := by
  by_cases h : t.val = 0
  · unfold Dat.leavesExact; rw [live6 t h, after6]
  · cases hf : (cfg0.win 6).flush t
    · rw [(dats m 0 c).leavesExact_idle 6 t (idle6 t h) hf]
      iintro H; iexists (fun _ => Classical.arbitrary _)
      rw [before6 m c _ t.val t.isLt h]; iexact H
    · unfold Dat.leavesExact; rw [idle6 t h, hf, after6]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t)

set_option maxHeartbeats 1600000 in
/-- The body at any point: at the first the quantising run, at a later one the run from the codes and the scale found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h : t.val = 0
  · obtain rfl : t = t0 := Fin.ext h
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t0) _ _ _ _ _ _ _ _ _ _ _ _ _ _ ((first_iff t0).mpr h) (iblk m c 0 t0) (iblk m c 1 t0) (iblk m c 2 t0) (iblk m c 3 t0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t0); iexact H5
    iapply (leaves6 m c t0); iexact H6
  · simp only [before5 m c _ t.val t.isLt h, before6 m c _ t.val t.isLt h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ (fun hc => h ((first_iff t).mp hc)) (iblk m c 0 t) (iblk m c 1 t) (iblk m c 2 t) (iblk m c 3 t)
      (codesOf (iblk m c 0 t0)) (scaleOf (iblk m c 0 t0)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t); iexact H5
    iapply (leaves6 m c t); iexact H6

theorem defs₀_row (t : Fin cfg0.N) :
    defs₀ (F := F) .tc cfg0.body (cfg0.bodyArgs t (cfg0.slots t)) = bodyAt0 t := by
  unfold defs₀; rw [Defs.onTc_tc]

/-- The body meets what the pipeline asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 1600000 in
/-- Every execution ends, with the three result arrays as the pipeline writes them, every other array as it was, and every
    semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged, and every semaphore counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- The run with each result array named, the arguments unchanged. -/
theorem run_arrays : θ_run defs (onTc (τ := τ) (main (F := F))) ⟨m, fun _ => 0, ρ⟩ fun r => ∀ c : Dev nD,
      (r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨⟨(h.1 c).1 4, (h.1 c).1 5, (h.1 c).1 6⟩, h.2 c⟩) (θ_run_and (run_main m ρ) (unchanged m ρ))

end Cert.KernelIdeal.Hand

end
-- ==== Proof.Product.lean ====
/-
  The scaled product at an element, over the extended reals: what one block of the kernel computes at an element, and what
  the reference computes at an element, are both the sum over the 9856 features of code times weight, times the row's
  scale, times the column's weight scale, plus the residual.
-/
module

public import proofs.«01_k».proof.Proof.Gen.KernelIdeal.Skeleton
public import proofs.«01_k».proof.Proof.Gen.ReferenceIdeal.Skeleton
public import Idealize.ShloMosaic.Lib.Pointwise
public import Idealize.ShloMosaic.Lib.Pipeline.ValueKit

@[expose] public section

set_option maxRecDepth 16384

noncomputable section

namespace Cert.Quantise

open Idealize.ShloMosaic Idealize.SL.Sem
open Cert.KernelIdeal (S192x9856 S192x1 S512x9856 S1x512 S192x512)
open Cert.ReferenceIdeal (S22016x9856 S1x22016 S192x22016)

/-- The element of the result at row `r` and column `n` of the arrays given. -/
def element (q : Vec Ideal S192x9856 .fp8e4m3) (w : Vec Ideal S22016x9856 .fp8e4m3) (s : Vec Ideal S192x1 .f32) (ws : Vec Ideal S1x22016 .f32)
    (res : Vec Ideal S192x22016 .bf16) (r : Fin 192) (n : Fin 22016) : EReal :=
  (∑ k : Fin 9856, q (ix2 r k) * w (ix2 n k)) * s (ix2 r 0) * ws (ix2 0 n) + res (ix2 r n)

/-- One block of the kernel, at an element. -/
theorem block_apply (q : Vec Ideal S192x9856 .fp8e4m3) (w : Vec Ideal S512x9856 .fp8e4m3) (s : Vec Ideal S192x1 .f32) (ws : Vec Ideal S1x512 .f32)
    (res : Vec Ideal S192x512 .bf16) (r : Fin 192) (n : Fin 512) :
    Cert.KernelIdeal.Gen.k0_pay4 q w s ws res (ix2 r n)
      = (∑ k : Fin 9856, q (ix2 r k) * w (ix2 n k)) * s (ix2 r 0) * ws (ix2 0 n) + res (ix2 r n) := by
  pointwise [Cert.KernelIdeal.Gen.k0_pay4]

/-- The reference, at an element: over its own codes and scale. -/
theorem whole_apply (x : Vec Ideal S192x9856 .bf16) (w : Vec Ideal S22016x9856 .fp8e4m3) (ws : Vec Ideal S1x22016 .f32)
    (res : Vec Ideal S192x22016 .bf16) (r : Fin 192) (n : Fin 22016) :
    Cert.ReferenceIdeal.Gen.k0_pay1 (Cert.ReferenceIdeal.Gen.k0_pay6 (F := Ideal) x w) ws res (ix2 r n)
      = element (Cert.ReferenceIdeal.Gen.k0_pay5 (F := Ideal) x) w (Cert.ReferenceIdeal.Gen.k0_pay4 (F := Ideal) x) ws res r n := by
  unfold element Cert.ReferenceIdeal.Gen.k0_pay6
  generalize Cert.ReferenceIdeal.Gen.k0_pay5 (F := Ideal) x = q
  generalize Cert.ReferenceIdeal.Gen.k0_pay4 (F := Ideal) x = s
  pointwise [Cert.ReferenceIdeal.Gen.k0_pay1]

end Cert.Quantise

end
-- ==== Proof.KernelArrays.lean ====
/-
  The kernel's three result arrays after the run, as functions of the arrays it was launched on, over the extended reals.
-/
module

public import proofs.«01_k».proof.Proof.KernelRun
public import proofs.«01_k».proof.Proof.Product

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.Quantise (element block_apply)

variable (m : (ℓ : Loc nD τ sig) → Buf (Elt Ideal) ℓ)

theorem idx : ∀ t : Fin cfg0.N, win0_0.index t = ![0, 0] ∧ win0_1.index t = ![t.val, 0] ∧ win0_2.index t = ![0, t.val]
    ∧ win0_3.index t = ![0, t.val] ∧ win0_4.index t = ![0, t.val] := by decide +kernel

/-- The activations as the kernel sees them: its one block of them is the whole array. -/
theorem iblk0_eq (c : Dev nD) (t : Fin cfg0.N) : iblk m c 0 t = V m c main_v0 := by
  funext y
  blk_ext [iblk, idx t]

/-- The last point. -/
abbrev tLast : Fin cfg0.N := ⟨42, by decide⟩

/-- The codes array ends holding the codes of the activations. -/
theorem final5 (c : Dev nD) : (dats m 0 c).arrAt 5 cfg0.N = codesOf (V m c main_v0) := by
  refine (dats m 0 c).arrAt_eq_of_after_last 5 tLast (by decide +kernel) _ fun j => ?_
  blk_simp
  rw [after5, iblk0_eq]

/-- A value carried to an equal type is whatever it is heterogeneously equal to. -/
theorem cast_eq_of_heq {α β : Type} (h : α = β) {x : α} {y : β} (e : HEq x y) : _root_.cast h x = y := by
  subst h; exact eq_of_heq e

/-- The scale array ends holding the scale of the activations. -/
theorem final6 (c : Dev nD) : (dats m 0 c).arrAt 6 cfg0.N = scaleOf (V m c main_v0) := by
  have h := after6 m c tLast
  rw [iblk0_eq] at h
  generalize scaleOf (V m c main_v0) = s at h ⊢
  have hj : ∀ j, (cfg0.win 6).arr.view.emb j = j := fun _ => rfl
  refine (dats m 0 c).arrAt_eq_of_after_last 6 tLast (by decide +kernel) _ fun j => ?_
  refine Eq.trans ?_ (congrArg s (hj j).symm)
  generalize (dats m 0 c).after 6 tLast = f at h ⊢
  exact cast_eq_of_heq _ (heq_of_eq (congrFun h _))

/-- Block `t` of the result, at an element: row `r`, column `512 t + n` of the whole. -/
theorem block_at (c : Dev nD) (t : Fin cfg0.N) (r : Fin 192) (n : Fin 512) (h : t.val * 512 + n.val < 22016) :
    k0_pay4 (codesOf (V m c main_v0)) (iblk m c 1 t) (scaleOf (V m c main_v0)) (iblk m c 2 t) (iblk m c 3 t) (ix2 r n)
      = element (codesOf (V m c main_v0)) (V m c main_arg1) (scaleOf (V m c main_v0)) (V m c main_v1) (V m c main_v2) r ⟨t.val * 512 + n.val, h⟩ := by
  generalize codesOf (V m c main_v0) = q
  generalize scaleOf (V m c main_v0) = s
  rw [block_apply]
  unfold element
  have e1 : ∀ k : Fin 9856, iblk m c 1 t (ix2 n k) = V m c main_arg1 (ix2 ⟨t.val * 512 + n.val, h⟩ k) := fun k => by
    blk_ext [iblk, idx t]
  have e2 : iblk m c 2 t (ix2 0 n) = V m c main_v1 (ix2 0 ⟨t.val * 512 + n.val, h⟩) := by
    blk_ext [iblk, idx t]
  have e3 : iblk m c 3 t (ix2 r n) = V m c main_v2 (ix2 r ⟨t.val * 512 + n.val, h⟩) := by
    blk_ext [iblk, idx t]
  rw [e2, e3]
  simp only [e1]

/-- The result array ends holding, at every row and column, the element of the scaled product plus the residual. -/
theorem final4 (c : Dev nD) : (dats m 0 c).arrAt 4 cfg0.N
    = fun i : S192x22016.Idx => element (codesOf (V m c main_v0)) (V m c main_arg1) (scaleOf (V m c main_v0)) (V m c main_v1) (V m c main_v2) (i 0) (i 1) := by
  have hb := block_at m c
  have ha := after4 m c
  simp only [iblk0_eq] at ha
  generalize codesOf (V m c main_v0) = q at ha hb ⊢
  generalize scaleOf (V m c main_v0) = s at ha hb ⊢
  refine (dats m 0 c).arrAt_eq_of_covers 4 _ (by decide +kernel) fun t hf y => ?_
  blk_simp
  rw [ha]
  have h0 : (y 0).val < 192 := (y 0).isLt
  have h1 : (y 1).val < 512 := (y 1).isLt
  have ht : t.val < 43 := t.isLt
  have hy : y = (ix2 ⟨(y 0).val, h0⟩ ⟨(y 1).val, h1⟩ : S192x512.Idx) := by funext a; fin_cases a <;> rfl
  have hl : t.val * 512 + (y 1).val < 22016 := by omega
  have e0 : ((win0_4.blk t).view.emb y) 0 = (⟨(y 0).val, h0⟩ : Fin 192) := by
    apply Fin.ext; blk_simp [idx t]
  have e1 : ((win0_4.blk t).view.emb y) 1 = (⟨t.val * 512 + (y 1).val, hl⟩ : Fin 22016) := by
    apply Fin.ext; blk_simp [idx t]
  refine (congrArg _ hy).trans ((hb t ⟨(y 0).val, h0⟩ ⟨(y 1).val, h1⟩ hl).trans ?_)
  exact (congrArg₂ (element q _ s _ _) e0 e1).symm

end Cert.KernelIdeal.Hand

end
-- ==== Proof.ReferenceArrays.lean ====
/-
  The reference's three result arrays after its run, as functions of the arrays it was launched on, over the extended
  reals.
-/
module

public import proofs.«01_k».proof.Proof.Gen.ReferenceIdeal.Frame
public import proofs.«01_k».proof.Proof.Product

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window)
open Cert.Quantise (element whole_apply)

variable (m : (ℓ : Loc nD τ sig) → Buf (Elt Ideal) ℓ) (ρ : Dev nD → PrngReg)

theorem idx : ∀ t : Fin cfg0.N, win0_0.index t = ![0, 0] ∧ win0_1.index t = ![0, 0] ∧ win0_2.index t = ![0, 0]
    ∧ win0_3.index t = ![0, 0] := by decide +kernel

/-- Each input block is its whole array. -/
theorem iblk0_eq (c : Dev nD) (t : Fin cfg0.N) : iblk m c 0 t = V m c main_v0 := by
  funext y
  blk_ext [iblk, idx t]
theorem iblk1_eq (c : Dev nD) (t : Fin cfg0.N) : iblk m c 1 t = V m c main_arg1 := by
  funext y
  blk_ext [iblk, idx t]
theorem iblk2_eq (c : Dev nD) (t : Fin cfg0.N) : iblk m c 2 t = V m c main_v1 := by
  funext y
  blk_ext [iblk, idx t]
theorem iblk3_eq (c : Dev nD) (t : Fin cfg0.N) : iblk m c 3 t = V m c main_v2 := by
  funext y
  blk_ext [iblk, idx t]

theorem offsets_zero : (![0, 0] : Fin 2 → Nat) = fun _ => 0 := funext fun a => by fin_cases a <;> rfl

/-- What the body leaves in each result's buffer: the value it computes from the whole arrays. -/
theorem out4_eq (x0 : Vec Ideal S192x9856 .bf16) (x1 : Vec Ideal S22016x9856 .fp8e4m3) (x2 : Vec Ideal S1x22016 .f32) (x3 : Vec Ideal S192x22016 .bf16) :
    out0_4 x0 x1 x2 x3 = k0_pay1 (k0_pay6 x0 x1) x2 x3 := by
  unfold out0_4
  rw [View.canon_unit_zero offsets_zero, View.ld_unit_zero (S := S192x9856) offsets_zero, View.ld_unit_zero (S := S22016x9856) offsets_zero,
    View.ld_unit_zero (S := S1x22016) offsets_zero, View.ld_unit_zero (S := S192x22016) offsets_zero]

theorem out5_eq (x0 : Vec Ideal S192x9856 .bf16) (x1 : Vec Ideal S22016x9856 .fp8e4m3) (x2 : Vec Ideal S1x22016 .f32) (x3 : Vec Ideal S192x22016 .bf16) :
    out0_5 x0 x1 x2 x3 = k0_pay5 x0 := by
  unfold out0_5
  rw [View.canon_unit_zero offsets_zero, View.ld_unit_zero (S := S192x9856) offsets_zero]

theorem out6_eq (x0 : Vec Ideal S192x9856 .bf16) (x1 : Vec Ideal S22016x9856 .fp8e4m3) (x2 : Vec Ideal S1x22016 .f32) (x3 : Vec Ideal S192x22016 .bf16) :
    out0_6 x0 x1 x2 x3 = k0_pay4 x0 := by
  unfold out0_6
  rw [View.canon_unit_zero offsets_zero, View.ld_unit_zero (S := S192x9856) offsets_zero]

/-- The one point. -/
abbrev tOnly : Fin cfg0.N := ⟨0, by decide⟩

/-- The codes array ends holding the reference's codes of the activations. -/
theorem final5 (c : Dev nD) : (dats m 0 c).arrAt 5 cfg0.N = k0_pay5 (F := Ideal) (V m c main_v0) := by
  have h := after0_5 m c tOnly
  rw [iblk0_eq, out5_eq] at h
  generalize k0_pay5 (F := Ideal) (V m c main_v0) = q at h ⊢
  refine (dats m 0 c).arrAt_eq_of_after_last 5 tOnly (by decide +kernel) _ fun j => ?_
  blk_simp
  rw [h]

/-- The scale array ends holding the reference's scale of the activations. -/
theorem final6 (c : Dev nD) : (dats m 0 c).arrAt 6 cfg0.N = k0_pay4 (F := Ideal) (V m c main_v0) := by
  have h := after0_6 m c tOnly
  rw [iblk0_eq, out6_eq] at h
  generalize k0_pay4 (F := Ideal) (V m c main_v0) = q at h ⊢
  refine (dats m 0 c).arrAt_eq_of_after_last 6 tOnly (by decide +kernel) _ fun j => ?_
  blk_simp
  rw [h]

/-- The result array ends holding, at every row and column, the element of the scaled product plus the residual. -/
theorem final4 (c : Dev nD) : (dats m 0 c).arrAt 4 cfg0.N
    = fun i : S192x22016.Idx => element (k0_pay5 (F := Ideal) (V m c main_v0)) (V m c main_arg1) (k0_pay4 (F := Ideal) (V m c main_v0)) (V m c main_v1) (V m c main_v2) (i 0) (i 1) := by
  have hG : k0_pay1 (k0_pay6 (F := Ideal) (V m c main_v0) (V m c main_arg1)) (V m c main_v1) (V m c main_v2)
      = fun i : S192x22016.Idx => element (k0_pay5 (F := Ideal) (V m c main_v0)) (V m c main_arg1) (k0_pay4 (F := Ideal) (V m c main_v0)) (V m c main_v1) (V m c main_v2) (i 0) (i 1) := by
    funext i
    have hi : i = (ix2 (i 0) (i 1) : S192x22016.Idx) := by funext a; fin_cases a <;> rfl
    exact (congrArg _ hi).trans (whole_apply _ _ _ _ (i 0) (i 1))
  have h := after0_4 m c tOnly
  rw [iblk0_eq, iblk1_eq, iblk2_eq, iblk3_eq, out4_eq, hG] at h
  generalize (fun i : S192x22016.Idx => element (k0_pay5 (F := Ideal) (V m c main_v0)) (V m c main_arg1) (k0_pay4 (F := Ideal) (V m c main_v0)) (V m c main_v1) (V m c main_v2) (i 0) (i 1)) = q at h ⊢
  refine (dats m 0 c).arrAt_eq_of_after_last 4 tOnly (by decide +kernel) _ fun j => ?_
  blk_simp
  rw [h]

/-- The reference's run: its three result arrays, and its arguments unchanged. -/
theorem run_arrays : θ_run defs (onTc (τ := τ) (main (F := Ideal))) ⟨m, fun _ => 0, ρ⟩ fun r => ∀ c : Dev nD,
      (r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨⟨(h.1 c).1 4, (h.1 c).1 5, (h.1 c).1 6⟩, h.2 c⟩) (θ_run_and (run_main m ρ) (unchanged m ρ))

end Cert.ReferenceIdeal.Hand

end
-- ==== Proof.Exponent.lean ====
/-
  The exponent of the quantiser, over the extended reals.

  The kernel finds the exponent of `t` by a binary search over the eight exponent bits of an f32 pattern: the largest
  field whose power of two is at most `t`. The reference writes it `⌊log t / log 2⌋ + 1` on `[2⁻¹²⁶, 2¹²⁶)` and zero
  outside. The two are the same integer, and a power of two assembled from bits is `2` to that integer.
-/
module

public import Idealize.ShloMosaic.PureOps.Ideal
public import Idealize.ShloMosaic.PureOps.Ideal.Laws

@[expose] public section

noncomputable section

namespace Cert.Quantise

open Idealize.ShloMosaic

/-- The extended real of the f32 pattern with exponent field `f` and nothing else set. -/
def power (f : BitVec 32) : EReal := Ideal.ofBits .f32 (f <<< (23 : ℕ))

theorem fields : ∀ n : Fin 256, ((BitVec.ofNat 32 n.val <<< (23 : ℕ)).extractLsb' 31 1 == 1#1) = false
    ∧ ((BitVec.ofNat 32 n.val <<< (23 : ℕ)).extractLsb' 23 8).toNat = n.val
    ∧ ((BitVec.ofNat 32 n.val <<< (23 : ℕ)).extractLsb' 0 23).toNat = 0 := by decide +kernel

/-- An f32 pattern of sign 0, exponent field `n` from 1 to 254 and no fraction denotes `2ⁿ⁻¹²⁷`. -/
theorem ofBits_normal (b : BitVec 32) (n : ℕ) (h1 : 1 ≤ n) (h2 : n ≤ 254) (hs : (b.extractLsb' 31 1 == 1#1) = false)
    (he : (b.extractLsb' 23 8).toNat = n) (hf : (b.extractLsb' 0 23).toNat = 0) :
    Ideal.ofBits .f32 b = (((2 : ℝ) ^ ((n : ℤ) - 127) : ℝ) : EReal) := by
  show Ideal.ieee 8 23 b = _
  unfold Ideal.ieee
  dsimp only
  rw [show (8 + 23 : ℕ) = 31 from rfl, hs, he, hf, if_neg (by omega), if_neg (by omega)]
  congr 1
  have h : (2 : ℝ) ^ ((n : ℤ) - (2 ^ (8 - 1) - 1) - ((23 : ℕ) : ℤ)) = (2 : ℝ) ^ ((n : ℤ) - 127) * (2 : ℝ) ^ (-23 : ℤ) := by
    rw [← zpow_add₀ (by norm_num)]; congr 1
  rw [h]
  norm_num
  ring

/-- A field from 1 to 254 is the power of two with that biased exponent. -/
theorem power_normal (n : ℕ) (h1 : 1 ≤ n) (h2 : n ≤ 254) : power (BitVec.ofNat 32 n) = (((2 : ℝ) ^ ((n : ℤ) - 127) : ℝ) : EReal) := by
  obtain ⟨hs, he, hf⟩ := fields ⟨n, by omega⟩
  exact ofBits_normal _ n h1 h2 hs he hf

/-- One step of the search: keep the bit when its power is at most `t`. -/
def step (t : EReal) (f bit : BitVec 32) : BitVec 32 := if power (f + bit) ≤ t then f + bit else f

/-- The field the search finds. -/
def field (t : EReal) : BitVec 32 :=
  step t (step t (step t (step t (step t (step t (step t (step t 0#32 128#32) 64#32) 32#32) 16#32) 8#32) 4#32) 2#32) 1#32

/-- The search holds a field whose power is at most `t` (or zero), the field `w` above it being too large (or past the end). -/
def Between (t : EReal) (w : ℕ) (f : BitVec 32) : Prop :=
  ∃ n : ℕ, f = BitVec.ofNat 32 n ∧ n + w ≤ 256 ∧ (n = 0 ∨ power (BitVec.ofNat 32 n) ≤ t) ∧ (n + w = 256 ∨ t < power (BitVec.ofNat 32 (n + w)))

theorem between_step (t : EReal) (b : ℕ) (f : BitVec 32) (h : Between t (b + b) f) : Between t b (step t f (BitVec.ofNat 32 b)) := by
  obtain ⟨n, rfl, hle, hlo, hhi⟩ := h
  unfold step
  rw [← BitVec.ofNat_add]
  by_cases hp : power (BitVec.ofNat 32 (n + b)) ≤ t
  · rw [if_pos hp]
    exact ⟨n + b, rfl, by omega, Or.inr hp, by rwa [show n + b + b = n + (b + b) by omega]⟩
  · rw [if_neg hp]
    exact ⟨n, rfl, by omega, hlo, Or.inr (not_le.mp hp)⟩

theorem between_field (t : EReal) : Between t 1 (field t) :=
  between_step t 1 _ (between_step t 2 _ (between_step t 4 _ (between_step t 8 _ (between_step t 16 _ (between_step t 32 _
    (between_step t 64 _ (between_step t 128 _ ⟨0, rfl, by norm_num, Or.inl rfl, Or.inl rfl⟩)))))))

/-- The kernel's exponent of a row: zero when its largest magnitude `a` is zero, zero when the field found for `t` is not
    one of 1 … 252, and the field less 126 otherwise. -/
def expBits (a t : EReal) : BitVec 32 :=
  if a = 0 then 0#32 else if (field t).slt 1#32 = true ∨ (252#32).slt (field t) = true then 0#32 else field t - 126#32

/-- The reference's exponent of a row. -/
def expReal (a t : EReal) : EReal :=
  if a = 0 then 0
  else if (((2 : ℝ) ^ (-126 : ℤ) : ℝ) : EReal) ≤ t ∧ t < (((2 : ℝ) ^ (126 : ℤ) : ℝ) : EReal)
    then Ideal.liftRound Int.floor (Ideal.div (Ideal.log t) ((Real.log 2 : ℝ) : EReal)) + 1 else 0

theorem zpow_le_iff {a b : ℤ} (h : a ≤ b) : (((2 : ℝ) ^ a : ℝ) : EReal) ≤ (((2 : ℝ) ^ b : ℝ) : EReal) :=
  EReal.coe_le_coe_iff.mpr (zpow_le_zpow_right₀ (by norm_num) h)

/-- The logarithm in base 2 of a number in `[2ᵏ, 2ᵏ⁺¹)`, rounded down, is `k`. -/
theorem floor_log (t : EReal) (k : ℤ) (h1 : (((2 : ℝ) ^ k : ℝ) : EReal) ≤ t) (h2 : t < (((2 : ℝ) ^ (k + 1) : ℝ) : EReal)) :
    Ideal.liftRound Int.floor (Ideal.div (Ideal.log t) ((Real.log 2 : ℝ) : EReal)) = ((k : ℝ) : EReal) := by
  have hl : 0 < Real.log 2 := Real.log_pos (by norm_num)
  induction t with
  | bot => exact absurd h1 (by simp)
  | top => exact absurd h2 (by simp)
  | coe r =>
    rw [EReal.coe_le_coe_iff] at h1
    rw [EReal.coe_lt_coe_iff] at h2
    have hr : 0 < r := lt_of_lt_of_le (by positivity) h1
    have hlog : Ideal.log (r : EReal) = ((Real.log r : ℝ) : EReal) := if_neg (not_le.mpr hr)
    rw [hlog]
    unfold Ideal.div
    rw [if_neg (by exact_mod_cast hl.ne'), ← EReal.coe_inv, ← EReal.coe_mul]
    show (((⌊Real.log r * (Real.log 2)⁻¹⌋ : ℤ) : ℝ) : EReal) = _
    have hfl : ⌊Real.log r * (Real.log 2)⁻¹⌋ = k := by
      rw [Int.floor_eq_iff, ← div_eq_mul_inv]
      constructor
      · rw [le_div_iff₀ hl, ← Real.log_zpow]
        exact Real.log_le_log (by positivity) h1
      · rw [div_lt_iff₀ hl, show ((k : ℝ) + 1) = ((k + 1 : ℤ) : ℝ) by push_cast; rfl, ← Real.log_zpow]
        exact Real.log_lt_log hr h2
    rw [hfl]

theorem words : ∀ n : Fin 256, ((BitVec.ofNat 32 n.val).slt 1#32 = true ∨ (252#32).slt (BitVec.ofNat 32 n.val) = true) ↔ (n.val < 1 ∨ 252 < n.val) := by
  decide +kernel

theorem words_exp : ∀ n : Fin 256, 1 ≤ n.val → BitVec.ofNat 32 n.val - 126#32 = BitVec.ofInt 32 ((n.val : ℤ) - 126) := by
  decide +kernel

/-- The two exponents are one integer, between −125 and 126. -/
theorem exp_agree (a t : EReal) : ∃ e : ℤ, -125 ≤ e ∧ e ≤ 126 ∧ expBits a t = BitVec.ofInt 32 e ∧ expReal a t = ((e : ℝ) : EReal) := by
  unfold expBits expReal
  by_cases ha : a = 0
  · exact ⟨0, by norm_num, by norm_num, by rw [if_pos ha]; rfl, by rw [if_pos ha]; simp⟩
  rw [if_neg ha, if_neg ha]
  obtain ⟨n, hf, hn, hlo, hhi⟩ := between_field t
  rw [hf]
  have hw := words ⟨n, by omega⟩
  dsimp only at hw
  by_cases hr : n < 1 ∨ 252 < n
  · refine ⟨0, by norm_num, by norm_num, by rw [if_pos (hw.mpr hr)]; rfl, ?_⟩
    rw [if_neg]
    · simp
    rintro ⟨h1, h2⟩
    rcases hr with h | h
    · have h0 : n = 0 := by omega
      subst h0
      rcases hhi with h' | h'
      · omega
      · rw [power_normal (0 + 1) (by norm_num) (by norm_num)] at h'
        exact absurd h1 (not_le.mpr (lt_of_lt_of_le h' (zpow_le_iff (by norm_num))))
    · rcases hlo with h' | h'
      · omega
      · refine absurd h2 (not_lt.mpr (le_trans ?_ h'))
        by_cases h5 : n ≤ 254
        · rw [power_normal n (by omega) h5]
          exact zpow_le_iff (by omega)
        · have h6 : n = 255 := by omega
          subst h6
          have : power (BitVec.ofNat 32 255) = ⊤ := by
            simp [power, Ideal.ofBits, Ideal.ieee]
          rw [this]; exact le_top
  · have h1 : 1 ≤ n := by omega
    have h2 : n ≤ 252 := by omega
    rcases hlo with h' | hlo
    · omega
    rcases hhi with h' | hhi
    · omega
    rw [power_normal n h1 (by omega)] at hlo
    rw [power_normal (n + 1) (by omega) (by omega)] at hhi
    refine ⟨(n : ℤ) - 126, by omega, by omega, ?_, ?_⟩
    · rw [if_neg (fun h => hr (hw.mp h))]
      exact words_exp ⟨n, by omega⟩ h1
    · rw [if_pos ⟨le_trans (zpow_le_iff (by omega)) hlo, lt_of_lt_of_le hhi (zpow_le_iff (by push_cast; omega))⟩]
      rw [floor_log t ((n : ℤ) - 127) hlo (by convert hhi using 4; push_cast; ring)]
      rw [show (1 : EReal) = ((1 : ℝ) : EReal) from rfl, ← EReal.coe_add]
      congr 1
      push_cast
      ring

theorem words_up : ∀ n : Fin 252, BitVec.ofInt 32 ((n.val : ℤ) - 125) + 127#32 = BitVec.ofNat 32 (n.val + 2)
    ∧ (0#32 - BitVec.ofInt 32 ((n.val : ℤ) - 125)) + 127#32 = BitVec.ofNat 32 (252 - n.val) := by
  decide +kernel

theorem exp2_int (e : ℤ) : Ideal.exp2 ((e : ℝ) : EReal) = (((2 : ℝ) ^ e : ℝ) : EReal) := by
  show ((Real.rpow 2 (e : ℝ) : ℝ) : EReal) = _
  exact congrArg _ (Real.rpow_intCast 2 e)

/-- The scale: the power of two assembled from the kernel's exponent is `2` to the reference's. -/
theorem scale_agree (a t : EReal) : power (expBits a t + 127#32) = Ideal.exp2 (expReal a t) := by
  obtain ⟨e, h1, h2, hb, hr⟩ := exp_agree a t
  rw [hb, hr, exp2_int]
  obtain ⟨n, rfl⟩ : ∃ n : ℕ, e = (n : ℤ) - 125 := ⟨(e + 125).toNat, by omega⟩
  rw [(words_up ⟨n, by omega⟩).1, power_normal _ (by omega) (by omega)]
  congr 2
  dsimp only; push_cast; ring

/-- The reciprocal scale, likewise from the negated exponents. -/
theorem inverse_agree (a t : EReal) : power ((0#32 - expBits a t) + 127#32) = Ideal.exp2 (0 - expReal a t) := by
  obtain ⟨e, h1, h2, hb, hr⟩ := exp_agree a t
  rw [hb, hr, show (0 : EReal) - ((e : ℝ) : EReal) = (((-e : ℤ) : ℝ) : EReal) by push_cast; rw [zero_sub], exp2_int]
  obtain ⟨n, rfl⟩ : ∃ n : ℕ, e = (n : ℤ) - 125 := ⟨(e + 125).toNat, by omega⟩
  rw [(words_up ⟨n, by omega⟩).2, power_normal _ (by dsimp only; omega) (by dsimp only; omega)]
  congr 2
  dsimp only; omega

end Cert.Quantise

end
-- ==== Proof.Quantised.lean ====
/-
  The two quantised results: the kernel's scale and codes are the reference's, at every activation array, over the
  extended reals.
-/
module

public import proofs.«01_k».proof.Proof.KernelBody
public import proofs.«01_k».proof.Proof.Exponent
public import proofs.«01_k».proof.Proof.Gen.ReferenceIdeal.Skeleton

@[expose] public section

set_option maxRecDepth 65536

noncomputable section

namespace Cert.Quantise

open Idealize.ShloMosaic Idealize.SL.Sem
open Cert.KernelIdeal (S192x9856 S192x1)
open Cert.KernelIdeal.Hand (flagOf expOf scaleOf codesOf)

/-- A shift by 23 is the shift by 23 places. -/
theorem shli_23 (x : BitVec 32) : IntOp.shli .vector x 23#32 = x <<< (23 : ℕ) := if_pos (by decide)

/-- One printed step of the search, read at an index. -/
theorem step_apply (t : FVec Ideal S192x1 .f32) (f : IVec S192x1 32) (b : BitVec 32) (i : S192x1.Idx) :
    select (cmpf .oge t (bitcastToFloat .f32 (shli (addi f (broadcast S192x1 b)) (broadcast S192x1 23#32)))) (addi f (broadcast S192x1 b)) f i
      = step (t i) (f i) b := by
  show (if Ideal.cmp .oge (t i) (Ideal.ofBits .f32 (IntOp.shli .vector (f i + b) 23#32)) = 1#1 then f i + b else f i) = _
  rw [shli_23]
  unfold step power Ideal.cmp
  generalize Ideal.ofBits .f32 ((f i + b) <<< (23 : ℕ)) = p
  by_cases h : p ≤ t i <;> simp [h]

/-- The largest magnitude of each row, and that over 448. -/
abbrev largest (X : Vec Ideal S192x9856 .bf16) : FVec Ideal S192x1 .f32 := Cert.KernelIdeal.Gen.k0_pay6 X
abbrev ratio (X : Vec Ideal S192x9856 .bf16) : FVec Ideal S192x1 .f32 := Cert.KernelIdeal.Gen.k0_pay7 X

section kernel
open Cert.KernelIdeal.Gen

/-- The field the kernel's search finds at a row. -/
theorem field_apply (X : Vec Ideal S192x9856 .bf16) (i : S192x1.Idx) :
    k0_pay11 (k0_pay7 X) (k0_pay8 X) (k0_pay9 X) k0_pay10 i = field (ratio X i) := by
  have h8 : k0_pay8 X i = step (ratio X i) (step (ratio X i) (step (ratio X i) 0#32 128#32) 64#32) 32#32 := by
    unfold k0_pay8
    rw [step_apply, step_apply, step_apply]
    rfl
  unfold k0_pay11 k0_pay10 k0_pay9
  rw [step_apply, step_apply, step_apply, step_apply, step_apply, h8]
  rfl

/-- The choice between zero and the exponent, read at an index. -/
theorem pay1_apply (a : FVec Ideal S192x1 .f32) (g : IVec S192x1 1) (e : IVec S192x1 32) (i : S192x1.Idx) :
    k0_pay1 a g e i = if a i = 0 then 0#32 else if g i = 1#1 then 0#32 else e i := by
  show (if Ideal.cmp .oeq (a i) (Ideal.ofBits .f32 0x00000000#32) = 1#1 then 0#32 else if g i = 1#1 then 0#32 else e i) = _
  rw [Ideal.ofBits_zero_f32]
  unfold Ideal.cmp
  generalize a i = r
  by_cases h : r = 0 <;> simp [h]

theorem pay12_apply (t : FVec Ideal S192x1 .f32) (f : IVec S192x1 32) (g : IVec S192x1 1) (b : IVec S192x1 32) (i : S192x1.Idx) :
    (k0_pay12 t f g b i = 1#1) = ((k0_pay11 t f g b i).slt 1#32 = true ∨ (252#32).slt (k0_pay11 t f g b i) = true) := by
  unfold k0_pay12
  show (BitVec.ofBool ((k0_pay11 t f g b i).slt 1#32) ||| BitVec.ofBool ((252#32).slt (k0_pay11 t f g b i)) = 1#1) = _
  generalize k0_pay11 t f g b i = w
  have e2 : ∀ p q : Bool, (BitVec.ofBool p ||| BitVec.ofBool q = 1#1) ↔ (p = true ∨ q = true) := by decide
  exact propext (e2 _ _)

theorem pay13_apply (t : FVec Ideal S192x1 .f32) (f : IVec S192x1 32) (g : IVec S192x1 1) (b : IVec S192x1 32) (i : S192x1.Idx) :
    k0_pay13 t f g b i = k0_pay11 t f g b i - 126#32 := rfl

/-- The exponent the kernel works with at a row. -/
theorem expBits_apply (X : Vec Ideal S192x9856 .bf16) (i : S192x1.Idx) :
    k0_pay1 (k0_pay6 X) (flagOf X) (expOf X) i = expBits (largest X i) (ratio X i) := by
  rw [pay1_apply]
  unfold flagOf expOf
  simp only [pay12_apply, pay13_apply, field_apply]
  rfl

theorem scaleOf_apply (X : Vec Ideal S192x9856 .bf16) (i : S192x1.Idx) :
    scaleOf X i = power (expBits (largest X i) (ratio X i) + 127#32) := by
  rw [← expBits_apply]
  unfold scaleOf k0_pay2
  show Ideal.ofBits .f32 (IntOp.shli .vector (k0_pay1 (k0_pay6 X) (flagOf X) (expOf X) i + 127#32) 23#32) = _
  rw [shli_23]
  rfl

/-- The reciprocal scale the kernel multiplies by. -/
def inverseOf (X : Vec Ideal S192x9856 .bf16) : FVec Ideal S192x1 .f32 :=
  bitcastToFloat .f32 (shli (addi (subi (broadcast S192x1 0#32) (k0_pay1 (k0_pay6 X) (flagOf X) (expOf X))) (broadcast S192x1 127#32)) (broadcast S192x1 23#32))

theorem inverseOf_apply (X : Vec Ideal S192x9856 .bf16) (i : S192x1.Idx) :
    inverseOf X i = power ((0#32 - expBits (largest X i) (ratio X i)) + 127#32) := by
  rw [← expBits_apply]
  unfold inverseOf
  show Ideal.ofBits .f32 (IntOp.shli .vector ((0#32 - k0_pay1 (k0_pay6 X) (flagOf X) (expOf X) i) + 127#32) 23#32) = _
  rw [shli_23]
  rfl

theorem codesOf_eq (X : Vec Ideal S192x9856 .bf16) : codesOf X =
    truncf .fp8e4m3 (minimumf (broadcast S192x9856 (Scalar.ofBits .f32 0x43E00000#32)) (maximumf (broadcast S192x9856 (Scalar.ofBits .f32 0xC3E00000#32))
      (mulf (k0_pay5 X) (broadcastTo S192x9856 (inverseOf X) broadcasts_S192x1_S192x9856)))) bitsLt_fp8e4m3_f32 := rfl

end kernel

section reference
open Cert.ReferenceIdeal.Gen

theorem ofBits_low : Ideal.ofBits .f32 0x00800000#32 = (((2 : ℝ) ^ (-126 : ℤ) : ℝ) : EReal) :=
  ofBits_normal _ 1 (by norm_num) (by norm_num) (by decide) (by decide) (by decide)

theorem ofBits_high : Ideal.ofBits .f32 0x7E800000#32 = (((2 : ℝ) ^ (126 : ℤ) : ℝ) : EReal) :=
  ofBits_normal _ 253 (by norm_num) (by norm_num) (by decide) (by decide) (by decide)

theorem ofBits_one : Ideal.ofBits .f32 0x3F800000#32 = 1 := by
  rw [ofBits_normal _ 127 (by norm_num) (by norm_num) (by decide) (by decide) (by decide)]
  norm_num

/-- The reference's exponent, from the largest magnitudes `a` and the ratios `t`. -/
def expOfRatio (a t : FVec Ideal S192x1 .f32) : FVec Ideal S192x1 .f32 :=
  select (cmpf .oeq a (broadcast S192x1 (Scalar.ofBits .f32 0x00000000#32))) (broadcast S192x1 (Scalar.ofBits .f32 0x00000000#32))
    (select (andi (cmpf .oge t (broadcast S192x1 (Scalar.ofBits .f32 0x00800000#32))) (cmpf .olt t (broadcast S192x1 (Scalar.ofBits .f32 0x7E800000#32))))
      (addf (floor (divf (log t) (broadcast S192x1 (Named.named (F := Ideal) Cert.ReferenceIdeal.κ "ln_2" 0x3F317218#32)))) (broadcast S192x1 (Scalar.ofBits .f32 0x3F800000#32)))
      (broadcast S192x1 (Scalar.ofBits .f32 0x00000000#32)))

theorem expOfRatio_apply (a t : FVec Ideal S192x1 .f32) (i : S192x1.Idx) : expOfRatio a t i = expReal (a i) (t i) := by
  unfold expOfRatio
  show (if Ideal.cmp .oeq (a i) (Ideal.ofBits .f32 0x00000000#32) = 1#1 then Ideal.ofBits .f32 0x00000000#32
    else if (Ideal.cmp .oge (t i) (Ideal.ofBits .f32 0x00800000#32) &&& Ideal.cmp .olt (t i) (Ideal.ofBits .f32 0x7E800000#32)) = 1#1
      then Ideal.liftRound Int.floor (Ideal.div (Ideal.log (t i)) ((Real.log 2 : ℝ) : EReal)) + Ideal.ofBits .f32 0x3F800000#32
      else Ideal.ofBits .f32 0x00000000#32) = _
  rw [ofBits_low, ofBits_high, ofBits_one, Ideal.ofBits_zero_f32]
  unfold expReal Ideal.cmp
  have e1 : ∀ p : Prop, ∀ _ : Decidable p, (BitVec.ofBool (decide p) = 1#1) ↔ p := by
    intro p _; by_cases h : p <;> simp [h]
  have e2 : ∀ p q : Bool, (BitVec.ofBool p &&& BitVec.ofBool q = 1#1) ↔ (p = true ∧ q = true) := by decide
  simp only [e1, e2, decide_eq_true_eq]

theorem pay3_eq (X : Vec Ideal S192x9856 .bf16) : k0_pay3 (F := Ideal) X = expOfRatio (largest X) (ratio X) := by
  unfold k0_pay3 expOfRatio ratio Cert.KernelIdeal.Gen.k0_pay7 largest Cert.KernelIdeal.Gen.k0_pay6 Cert.KernelIdeal.Gen.k0_pay5 k0_pay2
  rfl

/-- The exponent the reference works with at a row. -/
theorem expReal_apply (X : Vec Ideal S192x9856 .bf16) (i : S192x1.Idx) :
    k0_pay3 (F := Ideal) X i = expReal (largest X i) (ratio X i) := by
  rw [pay3_eq, expOfRatio_apply]

theorem pay4_apply (X : Vec Ideal S192x9856 .bf16) (i : S192x1.Idx) : k0_pay4 (F := Ideal) X i = Ideal.exp2 (k0_pay3 (F := Ideal) X i) := by
  unfold k0_pay4
  generalize k0_pay3 (F := Ideal) X = e
  rfl

/-- The scales agree. -/
theorem scale_eq (X : Vec Ideal S192x9856 .bf16) : scaleOf X = k0_pay4 (F := Ideal) X := by
  funext i
  rw [scaleOf_apply, scale_agree, ← expReal_apply, pay4_apply]

/-- The reciprocal scale of an exponent. -/
def inverse (e : FVec Ideal S192x1 .f32) : FVec Ideal S192x1 .f32 :=
  exp2 (subf (broadcast S192x1 (Scalar.ofBits (F := Ideal) .f32 0x00000000#32)) e)

theorem inverse_apply (e : FVec Ideal S192x1 .f32) (i : S192x1.Idx) : inverse e i = Ideal.exp2 (0 - e i) := by
  rw [← Ideal.ofBits_zero_f32]; rfl

/-- The reciprocal scales agree. -/
theorem inverse_eq (X : Vec Ideal S192x9856 .bf16) : inverseOf X = inverse (k0_pay3 (F := Ideal) X) := by
  funext i
  rw [inverseOf_apply, inverse_agree, ← expReal_apply, inverse_apply]

/-- The codes agree. -/
theorem codes_eq (X : Vec Ideal S192x9856 .bf16) : codesOf X = k0_pay5 (F := Ideal) X := by
  rw [codesOf_eq, inverse_eq]
  unfold k0_pay5 inverse Cert.KernelIdeal.Gen.k0_pay5 k0_pay2
  rfl

end reference

end Cert.Quantise

end
-- ==== Proof.Equation.lean ====
/-
  The kernel's and the reference's result arrays are equal, over the extended reals, when the two programs are launched
  on equal arguments.
-/
module

public import proofs.«01_k».proof.Proof.KernelArrays
public import proofs.«01_k».proof.Proof.ReferenceArrays
public import proofs.«01_k».proof.Proof.Quantised
public import Idealize.ShloMosaic.Lib.Claim

@[expose] public section

set_option maxRecDepth 16384

noncomputable section

namespace Cert.Quantise

open Idealize.ShloMosaic Idealize.ShloMosaic.TcCoe Idealize.ShloMosaic.Tactic
open Idealize.SL Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The activations, as a matrix, are the same in both programs. -/
theorem activations_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Gen.V m' c Cert.ReferenceIdeal.main_v0 = Cert.KernelIdeal.Gen.V m c Cert.KernelIdeal.main_v0 := by
  entry_read
  exact congrArg (fun x => shapeCast _ x) h

/-- The weights are the same in both programs. -/
theorem weights_eq (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Gen.V m' c Cert.ReferenceIdeal.main_arg1 = Cert.KernelIdeal.Gen.V m c Cert.KernelIdeal.main_arg1 := by
  entry_read
  exact h

/-- The weights' scales, as a row, are the same in both programs. -/
theorem weightScales_eq (c : Dev Cert.KernelIdeal.nD)
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Gen.V m' c Cert.ReferenceIdeal.main_v1 = Cert.KernelIdeal.Gen.V m c Cert.KernelIdeal.main_v1 := by
  entry_read
  exact congrArg (fun x => shapeCast _ x) h

/-- The residual, as a matrix, is the same in both programs. -/
theorem residual_eq (c : Dev Cert.KernelIdeal.nD)
    (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Gen.V m' c Cert.ReferenceIdeal.main_v2 = Cert.KernelIdeal.Gen.V m c Cert.KernelIdeal.main_v2 := by
  entry_read
  exact congrArg (fun x => shapeCast _ x) h

/-- The codes arrays of the two programs end equal. -/
theorem codes_final (c : Dev Cert.KernelIdeal.nD)
    (h : Cert.ReferenceIdeal.Gen.V m' c Cert.ReferenceIdeal.main_v0 = Cert.KernelIdeal.Gen.V m c Cert.KernelIdeal.main_v0) :
    (Cert.ReferenceIdeal.Gen.dats m' 0 c).arrAt 5 Cert.ReferenceIdeal.cfg0.N
      = (Cert.KernelIdeal.Hand.dats m 0 c).arrAt 5 Cert.KernelIdeal.cfg0.N :=
  (Cert.ReferenceIdeal.Hand.final5 m' c).trans
    (((congrArg (fun X => Cert.ReferenceIdeal.Gen.k0_pay5 (F := Ideal) X) h).trans (codes_eq _).symm).trans
      (Cert.KernelIdeal.Hand.final5 m c).symm)

/-- The scale arrays of the two programs end equal. -/
theorem scale_final (c : Dev Cert.KernelIdeal.nD)
    (h : Cert.ReferenceIdeal.Gen.V m' c Cert.ReferenceIdeal.main_v0 = Cert.KernelIdeal.Gen.V m c Cert.KernelIdeal.main_v0) :
    (Cert.ReferenceIdeal.Gen.dats m' 0 c).arrAt 6 Cert.ReferenceIdeal.cfg0.N
      = (Cert.KernelIdeal.Hand.dats m 0 c).arrAt 6 Cert.KernelIdeal.cfg0.N :=
  (Cert.ReferenceIdeal.Hand.final6 m' c).trans
    (((congrArg (fun X => Cert.ReferenceIdeal.Gen.k0_pay4 (F := Ideal) X) h).trans (scale_eq _).symm).trans
      (Cert.KernelIdeal.Hand.final6 m c).symm)

/-- Two arrays of scaled products plus a residual are equal when everything they are computed from is. -/
theorem elements_eq {q q' : Vec Ideal Cert.KernelIdeal.S192x9856 .fp8e4m3} {w w' : Vec Ideal Cert.KernelIdeal.S22016x9856 .fp8e4m3}
    {s s' : Vec Ideal Cert.KernelIdeal.S192x1 .f32} {ws ws' : Vec Ideal Cert.KernelIdeal.S1x22016 .f32}
    {res res' : Vec Ideal Cert.KernelIdeal.S192x22016 .bf16} (hq : q' = q) (hw : w' = w) (hs : s' = s) (hws : ws' = ws) (hr : res' = res) :
    (fun i : Cert.KernelIdeal.S192x22016.Idx => element q' w' s' ws' res' (i 0) (i 1)) = fun i => element q w s ws res (i 0) (i 1) := by
  subst hq; subst hw; subst hs; subst hws; subst hr; rfl

/-- The result arrays of the two programs end equal. -/
theorem result_final (c : Dev Cert.KernelIdeal.nD)
    (h0 : Cert.ReferenceIdeal.Gen.V m' c Cert.ReferenceIdeal.main_v0 = Cert.KernelIdeal.Gen.V m c Cert.KernelIdeal.main_v0)
    (h1 : Cert.ReferenceIdeal.Gen.V m' c Cert.ReferenceIdeal.main_arg1 = Cert.KernelIdeal.Gen.V m c Cert.KernelIdeal.main_arg1)
    (h2 : Cert.ReferenceIdeal.Gen.V m' c Cert.ReferenceIdeal.main_v1 = Cert.KernelIdeal.Gen.V m c Cert.KernelIdeal.main_v1)
    (h3 : Cert.ReferenceIdeal.Gen.V m' c Cert.ReferenceIdeal.main_v2 = Cert.KernelIdeal.Gen.V m c Cert.KernelIdeal.main_v2) :
    (Cert.ReferenceIdeal.Gen.dats m' 0 c).arrAt 4 Cert.ReferenceIdeal.cfg0.N
      = (Cert.KernelIdeal.Hand.dats m 0 c).arrAt 4 Cert.KernelIdeal.cfg0.N :=
  (Cert.ReferenceIdeal.Hand.final4 m' c).trans
    ((elements_eq ((congrArg (fun X => Cert.ReferenceIdeal.Gen.k0_pay5 (F := Ideal) X) h0).trans (codes_eq _).symm) h1
        ((congrArg (fun X => Cert.ReferenceIdeal.Gen.k0_pay4 (F := Ideal) X) h0).trans (scale_eq _).symm) h2 h3).trans
      (Cert.KernelIdeal.Hand.final4 m c).symm)

end Cert.Quantise

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.FloatRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Launched on equal arguments, the kernel and the reference end with equal results: the product with its residual, the
    codes and the scales. -/
theorem algebraic : Cert.algebraic_KernelIdeal_ReferenceIdeal (hKernelIdeal := Cert.KernelIdeal.Gen.facts) (hReferenceIdeal := Cert.ReferenceIdeal.Gen.facts) :=
  fun m g m' g' _ hargs =>
    ⟨fun c => (Cert.KernelIdeal.Hand.dats m 0 c).arrAt 4 Cert.KernelIdeal.cfg0.N,
      fun c => (Cert.KernelIdeal.Hand.dats m 0 c).arrAt 5 Cert.KernelIdeal.cfg0.N,
      fun c => (Cert.KernelIdeal.Hand.dats m 0 c).arrAt 6 Cert.KernelIdeal.cfg0.N,
      (θ_run Cert.KernelIdeal.defs _ _).mono (fun r h c => ⟨(h c).1.1, (h c).1.2.1, (h c).1.2.2, (h c).2⟩)
        (Cert.KernelIdeal.Hand.run_arrays m g),
      (θ_run Cert.ReferenceIdeal.defs _ _).mono (fun r h c =>
        have h0 := Cert.Quantise.activations_eq m m' c (hargs c).1
        have h1 := Cert.Quantise.weights_eq m m' c (hargs c).2.1
        have h2 := Cert.Quantise.weightScales_eq m m' c (hargs c).2.2.1
        have h3 := Cert.Quantise.residual_eq m m' c (hargs c).2.2.2
        ⟨(h c).1.1.trans (Cert.Quantise.result_final m m' c h0 h1 h2 h3), (h c).1.2.1.trans (Cert.Quantise.codes_final m m' c h0),
          (h c).1.2.2.trans (Cert.Quantise.scale_final m m' c h0), (h c).2⟩)
        (Cert.ReferenceIdeal.Hand.run_arrays m' g')⟩

theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g,
  fun m g _ => Cert.ReferenceIdeal.Gen.frame m g, trivial, algebraic⟩

end Cert.Proof

end
